-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x8192 : Shape := ⟨3, ![4, 2048, 8192]⟩
abbrev S1024x1024 : Shape := ⟨2, ![1024, 1024]⟩
abbrev S1x1024x1024 : Shape := ⟨3, ![1, 1024, 1024]⟩
abbrev S1x2048x1024 : Shape := ⟨3, ![1, 2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x8192, .f32⟩
  | .hbm, ⟨1, _⟩ => ⟨S1024x1024, .f32⟩
  | .hbm, ⟨2, _⟩ => ⟨S4x2048x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .f32⟩
  | .local _ .vmem, ⟨5, _⟩ => ⟨S1x2048x1024, .f32⟩
  | .local _ .vmem, ⟨6, _⟩ => ⟨S1x2048x1024, .f32⟩
  | _, _ => ⟨S4x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x2048x8192 : Shape := ⟨3, ![4, 2048, 8192]⟩
abbrev S1024x1024 : Shape := ⟨2, ![1024, 1024]⟩
abbrev S4x1024x8192 : Shape := ⟨3, ![4, 1024, 8192]⟩
abbrev S4x8192x1024 : Shape := ⟨3, ![4, 8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x8192, .f32⟩
  | .hbm, ⟨1, _⟩ => ⟨S1024x1024, .f32⟩
  | .hbm, ⟨2, _⟩ => ⟨S4x1024x8192, .f32⟩
  | .hbm, ⟨3, _⟩ => ⟨S4x1024x8192, .f32⟩
  | .hbm, ⟨4, _⟩ => ⟨S4x8192x1024, .f32⟩
  | .hbm, ⟨5, _⟩ => ⟨S4x1024x8192, .f32⟩
  | .hbm, ⟨6, _⟩ => ⟨S4x2048x8192, .f32⟩
  | _, _ => ⟨S4x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Mixed.lean ====
/-
  The mathematics both programs are compared with: a 1x1 convolution of the first 1024 of 2048 channels, the other
  1024 channels kept. Nothing in this file speaks of a program.
-/
module

public import Idealize.ShloMosaic.Lib.ValueIdx
public import Idealize.ShloMosaic.PureOps.Ideal

@[expose] public section

noncomputable section

namespace PartialConv

open Idealize.ShloMosaic Idealize.ShloMosaic.ValueIdx
open scoped BigOperators

/-- The activations: batch, channel, position. -/
abbrev Act : Shape := ⟨3, ![4, 2048, 8192]⟩
/-- The weight: output channel, input channel. -/
abbrev Wt : Shape := ⟨2, ![1024, 1024]⟩

/-- Channel `k` of the half that the weight mixes, among all channels. -/
abbrev mixCh (k : Fin 1024) : Fin 2048 := ⟨k.val, by omega⟩

/-- Channel `k` of the half that is kept, among all channels. -/
abbrev keepCh (k : Fin 1024) : Fin 2048 := ⟨1024 + k.val, by omega⟩

/-- Output channel `o` of the mixing at batch `b` and position `n`: row `o` of the weight times the column of the
    first 1024 channels there. -/
def mix (X : Act.Idx → EReal) (W : Wt.Idx → EReal) (b : Fin 4) (o : Fin 1024) (n : Fin 8192) : EReal :=
  ∑ k : Fin 1024, W (ix2 o k) * X (ix3 b (mixCh k) n)

/-- The partial convolution: the mixing on the first 1024 channels, the input on the others. -/
def partialConv (X : Act.Idx → EReal) (W : Wt.Idx → EReal) : Act.Idx → EReal := fun i =>
  if h : (i 1 : Nat) < 1024 then mix X W (i 0) ⟨(i 1 : Nat), h⟩ (i 2) else X i

/-- The partial convolution at a mixed channel. -/
theorem partialConv_mix (X : Act.Idx → EReal) (W : Wt.Idx → EReal) (b : Fin 4) (o : Fin 1024) (n : Fin 8192) :
    partialConv X W (ix3 b (mixCh o) n) = mix X W b o n :=
  dif_pos (show (mixCh o : Nat) < 1024 from o.isLt)

/-- The partial convolution at a kept channel. -/
theorem partialConv_keep (X : Act.Idx → EReal) (W : Wt.Idx → EReal) (b : Fin 4) (o : Fin 1024) (n : Fin 8192) :
    partialConv X W (ix3 b (keepCh o) n) = X (ix3 b (keepCh o) n) :=
  dif_neg (show ¬(keepCh o : Nat) < 1024 from by show ¬(1024 + o.val < 1024); omega)

/-- Every channel is a mixed one or a kept one. -/
theorem channel_cases (ch : Fin 2048) : (∃ o, ch = mixCh o) ∨ ∃ o, ch = keepCh o := by
  by_cases h : ch.val < 1024
  · exact .inl ⟨⟨ch.val, h⟩, rfl⟩
  · exact .inr ⟨⟨ch.val - 1024, by omega⟩, Fin.ext (by show ch.val = 1024 + (ch.val - 1024); omega)⟩

end PartialConv

end
-- ==== Proof.Block.lean ====
/-
  What the kernel's body leaves in the output's staging buffer, read at an index: the product of the weight and the
  first input block in rows 0 to 1023, the second input block in rows 1024 to 2047.
-/
module

public import proofs.«01_k».proof.Proof.Mixed
public import proofs.«01_k».proof.Proof.Gen.KernelIdeal.Frame
public import Idealize.ShloMosaic.Lib.MatmulPlain
public import Idealize.ShloMosaic.Lib.Pipeline.Value
public import Idealize.ShloMosaic.Lib.ValueLayout

@[expose] public section

noncomputable section

namespace PartialConv.Ker

open Idealize.ShloMosaic Idealize.ShloMosaic.ValueIdx Cert.KernelIdeal Cert.KernelIdeal.Gen
open scoped BigOperators

/-- The copied payload is the loaded block. -/
theorem copied_eq (x : Vec Ideal S1x1024x1024 .f32) : k0_pay1 x = x :=
  shapeCast_shapeCast x _ _

/-- The product's payload at row `o` and column `q`: a sum over the input channels. -/
theorem product_apply (w : Vec Ideal S1024x1024 .f32) (x : Vec Ideal S1x1024x1024 .f32) (o q : Fin 1024) :
    k0_pay2 w x (ix3 (0 : Fin 1) o q) = ∑ k : Fin 1024, w (ix2 o k) * x (ix3 (0 : Fin 1) k q) := by
  unfold k0_pay2
  refine (shapeCast_ab_1ab_apply _ _ 0 o q).trans ?_
  refine (Ideal.matmul_plain_apply (M := 1024) (K := 1024) (N := 1024) none _ _ _ o q).trans ?_
  refine (congrArg (· + _) Ideal.ofBits_zero_f32).trans ((zero_add _).trans ?_)
  refine Finset.sum_congr rfl fun k _ => congrArg (w (ix2 o k) * ·) ?_
  exact shapeCast_1ab_ab_apply x _ k q

/-- A whole block's offsets are zero. -/
theorem zero3 : (![0, 0, 0] : Fin 3 → Nat) = fun _ => 0 := funext fun a => by fin_cases a <;> rfl
/-- The weight block's offsets are zero. -/
theorem zero2 : (![0, 0] : Fin 2 → Nat) = fun _ => 0 := funext fun a => by fin_cases a <;> rfl

/-- Row `o` of the upper half of the staging buffer, in the rectangle that the product is stored through. -/
theorem upper_eq (o q : Fin 1024) : r0_3.emb (ix3 (0 : Fin 1) o q) = ix3 (0 : Fin 1) (mixCh o) q := by
  funext a; apply Fin.ext
  match a with
  | ⟨0, _⟩ => rfl
  | ⟨1, _⟩ => show 0 + 1 * o.val = o.val; omega
  | ⟨2, _⟩ => show 0 + 1 * q.val = q.val; omega

/-- Row `o` of the lower half of the staging buffer, in the rectangle that the copy is stored through. -/
theorem lower_eq (o q : Fin 1024) : r0_1.emb (ix3 (0 : Fin 1) o q) = ix3 (0 : Fin 1) (keepCh o) q := by
  funext a; apply Fin.ext
  match a with
  | ⟨0, _⟩ => rfl
  | ⟨1, _⟩ => show 1024 + 1 * o.val = 1024 + o.val; omega
  | ⟨2, _⟩ => show 0 + 1 * q.val = q.val; omega

/-- The lower half lies outside the rectangle that the product is stored through. -/
theorem lower_not_mem (o q : Fin 1024) : ix3 (0 : Fin 1) (keepCh o) q ∉ r0_3.set := by
  rw [Rect.mem_set_unit]
  intro h
  have : 1024 + o.val < 0 + 1024 := (h 1).2
  omega

/-- The staging buffer at a mixed channel: the product. -/
theorem out_mix (x0 x1 : Vec Ideal S1x1024x1024 .f32) (x2 : Vec Ideal S1024x1024 .f32) (o q : Fin 1024) :
    out0_3 x0 x1 x2 (ix3 (0 : Fin 1) (mixCh o) q) = ∑ k : Fin 1024, x2 (ix2 o k) * x0 (ix3 (0 : Fin 1) k q) := by
  unfold out0_3
  rw [← upper_eq]
  refine (View.canon_cons_emb r0_3 _ _ (ix3 (0 : Fin 1) o q)).trans ?_
  rw [View.ld_unit_zero (S := S1024x1024) zero2, View.ld_unit_zero (S := S1x1024x1024) zero3]
  exact product_apply x2 x0 o q

/-- Of two stores, one through each half, the lower half holds the one made through it. -/
theorem lower_half (p0 p1 : Vec Ideal S1x1024x1024 .f32) (o q : Fin 1024) :
    View.canon (Val := Elt Ideal) (s := S1x2048x1024) (e := .f32) [⟨r0_3, p0⟩, ⟨r0_1, p1⟩]
      (ix3 (0 : Fin 1) (keepCh o) q) = p1 (ix3 (0 : Fin 1) o q) := by
  have h := View.canon_cons_of_not_mem (Val := Elt Ideal) (s := S1x2048x1024) (e := .f32) ⟨r0_3, p0⟩ [⟨r0_1, p1⟩]
    (lower_not_mem o q)
  rw [h, ← lower_eq]
  exact View.canon_cons_emb (Val := Elt Ideal) (s := S1x2048x1024) (e := .f32) r0_1 p1 [] (ix3 (0 : Fin 1) o q)

/-- The staging buffer at a kept channel: the second input block. -/
theorem out_keep (x0 x1 : Vec Ideal S1x1024x1024 .f32) (x2 : Vec Ideal S1024x1024 .f32) (o q : Fin 1024) :
    out0_3 x0 x1 x2 (ix3 (0 : Fin 1) (keepCh o) q) = x1 (ix3 (0 : Fin 1) o q) := by
  unfold out0_3
  rw [lower_half, View.ld_unit_zero (S := S1x1024x1024) zero3, copied_eq]

end PartialConv.Ker

end
-- ==== Proof.Array.lean ====
/-
  What the result array holds after the run: each grid point writes back its block of the partial convolution of the
  two arguments, and the 32 blocks tile the array.
-/
module

public import proofs.«01_k».proof.Proof.Block
public import proofs.«01_k».proof.Proof.Gen.KernelIdeal.Value

@[expose] public section

noncomputable section

namespace PartialConv.Ker

open Idealize.ShloMosaic Idealize.ShloMosaic.ValueIdx Idealize.ShloMosaic.TcCoe Idealize.SL.Sem
open Cert.KernelIdeal Cert.KernelIdeal.Gen
open Idealize.ShloMosaic.Pipeline (Dat)
open scoped BigOperators

variable (m : (ℓ : Loc nD τ sig) → Buf (Elt Ideal) ℓ) (ρ : Dev nD → PrngReg)

/-- The activations that device `c` is given. -/
abbrev act (c : Dev nD) : Act.Idx → EReal := m ((c : Thread nD τ).loc main_arg0)
/-- The weight that device `c` is given. -/
abbrev wt (c : Dev nD) : Wt.Idx → EReal := m ((c : Thread nD τ).loc main_arg1)

/-- The partial convolution of device `c`'s arguments, as contents of the result array. -/
abbrev result (c : Dev nD) : Buf (Elt Ideal) ((c : Thread nD τ).loc main_v0) := partialConv (act m c) (wt m c)

/-- The batch that grid point `t` works on. -/
abbrev batchOf (t : Fin cfg0.N) : Fin 4 :=
  ⟨t.val / 8, by have h := t.isLt; have e : cfg0.N = 32 := N_0; omega⟩
/-- The position of column `q` of grid point `t`'s tile. -/
abbrev posOf (t : Fin cfg0.N) (q : Fin 1024) : Fin 8192 := ⟨t.val % 8 * 1024 + q.val, by omega⟩

/-- Where the first input's block stands: the tile's batch and positions, from channel 0. -/
theorem index0 : ∀ t : Fin cfg0.N, win0_0.index t 0 = t.val / 8 ∧ win0_0.index t 1 = 0 ∧ win0_0.index t 2 = t.val % 8 :=
  (by decide +kernel : ∀ t : Fin grid0.N,
    win0_0.index t 0 = t.val / 8 ∧ win0_0.index t 1 = 0 ∧ win0_0.index t 2 = t.val % 8)
/-- Where the second input's block stands: the same, from channel 1024. -/
theorem index1 : ∀ t : Fin cfg0.N, win0_1.index t 0 = t.val / 8 ∧ win0_1.index t 1 = 1 ∧ win0_1.index t 2 = t.val % 8 :=
  (by decide +kernel : ∀ t : Fin grid0.N,
    win0_1.index t 0 = t.val / 8 ∧ win0_1.index t 1 = 1 ∧ win0_1.index t 2 = t.val % 8)
/-- The weight's block is the whole weight. -/
theorem index2 : ∀ t : Fin cfg0.N, win0_2.index t 0 = 0 ∧ win0_2.index t 1 = 0 :=
  (by decide +kernel : ∀ t : Fin grid0.N, win0_2.index t 0 = 0 ∧ win0_2.index t 1 = 0)
/-- Where the output's block stands: the tile's batch and positions, all channels. -/
theorem index3 : ∀ t : Fin cfg0.N, win0_3.index t 0 = t.val / 8 ∧ win0_3.index t 1 = 0 ∧ win0_3.index t 2 = t.val % 8 :=
  (by decide +kernel : ∀ t : Fin grid0.N,
    win0_3.index t 0 = t.val / 8 ∧ win0_3.index t 1 = 0 ∧ win0_3.index t 2 = t.val % 8)

/-- The first input's block at channel `k`, column `q`. -/
theorem block0_apply (c : Dev nD) (t : Fin cfg0.N) (k q : Fin 1024) :
    (iblk m c 0 t : Vec Ideal S1x1024x1024 .f32) (ix3 (0 : Fin 1) k q) = act m c (ix3 (batchOf t) (mixCh k) (posOf t q)) := by
  obtain ⟨h0, h1, h2⟩ := index0 t
  unfold iblk
  rw [View.read_apply]
  show m ((c : Thread nD τ).loc main_arg0) _ = m ((c : Thread nD τ).loc main_arg0) _
  congr 1
  funext a; apply Fin.ext
  match a with
  | ⟨0, _⟩ => show win0_0.index t 0 * 1 + 1 * 0 = t.val / 8; omega
  | ⟨1, _⟩ => show win0_0.index t 1 * 1024 + 1 * k.val = k.val; omega
  | ⟨2, _⟩ => show win0_0.index t 2 * 1024 + 1 * q.val = t.val % 8 * 1024 + q.val; omega

/-- The second input's block at row `o`, column `q`. -/
theorem block1_apply (c : Dev nD) (t : Fin cfg0.N) (o q : Fin 1024) :
    (iblk m c 1 t : Vec Ideal S1x1024x1024 .f32) (ix3 (0 : Fin 1) o q) = act m c (ix3 (batchOf t) (keepCh o) (posOf t q)) := by
  obtain ⟨h0, h1, h2⟩ := index1 t
  unfold iblk
  rw [View.read_apply]
  show m ((c : Thread nD τ).loc main_arg0) _ = m ((c : Thread nD τ).loc main_arg0) _
  congr 1
  funext a; apply Fin.ext
  match a with
  | ⟨0, _⟩ => show win0_1.index t 0 * 1 + 1 * 0 = t.val / 8; omega
  | ⟨1, _⟩ => show win0_1.index t 1 * 1024 + 1 * o.val = 1024 + o.val; omega
  | ⟨2, _⟩ => show win0_1.index t 2 * 1024 + 1 * q.val = t.val % 8 * 1024 + q.val; omega

/-- The weight's block at output channel `o`, input channel `k`. -/
theorem block2_apply (c : Dev nD) (t : Fin cfg0.N) (o k : Fin 1024) :
    (iblk m c 2 t : Vec Ideal S1024x1024 .f32) (ix2 o k) = wt m c (ix2 o k) := by
  obtain ⟨h0, h1⟩ := index2 t
  unfold iblk
  rw [View.read_apply]
  show m ((c : Thread nD τ).loc main_arg1) _ = m ((c : Thread nD τ).loc main_arg1) _
  congr 1
  funext a; apply Fin.ext
  match a with
  | ⟨0, _⟩ => show win0_2.index t 0 * 1024 + 1 * o.val = o.val; omega
  | ⟨1, _⟩ => show win0_2.index t 1 * 1024 + 1 * k.val = k.val; omega

/-- Where channel `ch`, column `q` of grid point `t`'s output block stands in the result array. -/
theorem out_index (t : Fin cfg0.N) (ch : Fin 2048) (q : Fin 1024) :
    ((cfg0.win 3).blk t).view.emb (ix3 (0 : Fin 1) ch q) = ix3 (batchOf t) ch (posOf t q) := by
  obtain ⟨h0, h1, h2⟩ := index3 t
  funext a; apply Fin.ext
  match a with
  | ⟨0, _⟩ => show win0_3.index t 0 * 1 + 1 * 0 = t.val / 8; omega
  | ⟨1, _⟩ => show win0_3.index t 1 * 2048 + 1 * ch.val = ch.val; omega
  | ⟨2, _⟩ => show win0_3.index t 2 * 1024 + 1 * q.val = t.val % 8 * 1024 + q.val; omega

/-- What the body leaves at grid point `t` is the partial convolution at the tile's place in the array. -/
theorem out_apply (c : Dev nD) (t : Fin cfg0.N) (ch : Fin 2048) (q : Fin 1024) :
    out0_3 (iblk m c 0 t) (iblk m c 1 t) (iblk m c 2 t) (ix3 (0 : Fin 1) ch q)
      = partialConv (act m c) (wt m c) (ix3 (batchOf t) ch (posOf t q)) := by
  rcases channel_cases ch with ⟨o, rfl⟩ | ⟨o, rfl⟩
  · rw [out_mix, partialConv_mix]
    exact Finset.sum_congr rfl fun k _ => congrArg₂ (· * ·) (block2_apply m c t o k) (block0_apply m c t k q)
  · rw [out_keep, partialConv_keep]
    exact block1_apply m c t o q

/-- Grid point `t` writes back its block of the partial convolution. -/
theorem flushed_eq (c : Dev nD) (t : Fin cfg0.N) :
    (dats m 0 c).flushed 3 t = ((cfg0.win 3).blk t).view.read (Elt Ideal) (result m c) := by
  rw [Cert.KernelIdeal.Value.flushed3]
  funext y
  obtain ⟨u, ch, q, rfl⟩ : ∃ (u : Fin 1) (ch : Fin 2048) (q : Fin 1024), y = ix3 u ch q := ⟨_, _, _, eq_ix3 y⟩
  obtain rfl : u = 0 := Subsingleton.elim _ _
  refine (out_apply m c t ch q).trans ?_
  rw [View.read_apply]
  exact congrArg (partialConv (act m c) (wt m c)) (out_index t ch q).symm

/-- The blocks tile the result array. -/
theorem cover (i : S4x2048x8192.Idx) :
    ∃ t : Fin cfg0.N, (cfg0.win 3).flush t = true ∧ i ∈ ((cfg0.win 3).blk t).view.set := by
  have h0 : (i 0 : Nat) < 4 := (i 0).isLt
  have h1 : (i 1 : Nat) < 2048 := (i 1).isLt
  have h2 : (i 2 : Nat) < 8192 := (i 2).isLt
  have hN : cfg0.N = 32 := N_0
  obtain ⟨t, ht⟩ : ∃ t : Fin cfg0.N, t.val = (i 0 : Nat) * 8 + (i 2 : Nat) / 1024 := ⟨⟨_, by omega⟩, rfl⟩
  obtain ⟨e0, e1, e2⟩ := index3 t
  refine ⟨t, flush0_3 t, ?_⟩
  show i ∈ ((View.whole main_v0).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1; omega
  | ⟨1, _⟩ => show win0_3.index t 1 * 2048 ≤ (i 1 : Nat) ∧ (i 1 : Nat) < win0_3.index t 1 * 2048 + 2048; omega
  | ⟨2, _⟩ => show win0_3.index t 2 * 1024 ≤ (i 2 : Nat) ∧ (i 2 : Nat) < win0_3.index t 2 * 1024 + 1024; omega

/-- So the result array ends holding the partial convolution of the arguments. -/
theorem array_eq (c : Dev nD) : (dats m 0 c).arrAt 3 cfg0.N = result m c :=
  (dats m 0 c).arrAt_eq_of_cover 3 (result m c) (fun t _ => flushed_eq m c t) cover

/-- The kernel's run: the result array holds the partial convolution, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array_eq m c), (h c).2⟩)
    (Cert.KernelIdeal.Value.run_blocks m ρ)

end PartialConv.Ker

end
-- ==== Proof.RefValue.lean ====
/-
  What the reference leaves: the host's slices, product, transpose and concatenation, read at an index, are the
  partial convolution of its arguments.
-/
module

public import proofs.«01_k».proof.Proof.Mixed
public import proofs.«01_k».proof.Proof.Gen.ReferenceIdeal.Run
public import Idealize.ShloMosaic.PureOps.Ideal.Laws
public import Idealize.ShloMosaic.Lib.Pipeline.Value
public import Idealize.ShloMosaic.Lib.ValueLayout

@[expose] public section

noncomputable section

namespace PartialConv.Ref

open Idealize.ShloMosaic Idealize.ShloMosaic.ValueIdx Cert.ReferenceIdeal Cert.ReferenceIdeal.Gen
open scoped BigOperators

/-- The dimension numbers of the host's product: the activations' channel axis against the weight's input axis. -/
abbrev dims := dot_S4x1024x8192_S1024x1024_S4x8192x1024_1_1_02_0_n_n

/-- The contraction index of that product as its one coordinate. -/
def contr : dims.contr.Idx ≃ Fin 1024 := contrEquiv1 _ 1024 rfl rfl

/-- The host's product at batch `b`, position `n`, output channel `o` is a sum over the input channels. -/
theorem product_apply (x : FVec Ideal S4x1024x8192 .f32) (w : FVec Ideal S1024x1024 .f32)
    (b : Fin 4) (n : Fin 8192) (o : Fin 1024) :
    Host.dotGeneral dims none x w (ix3 b n o) = ∑ k : Fin 1024, x (ix3 b k n) * w (ix2 o k) := by
  simp only [Host.dotGeneral]
  rw [Ideal.dotGeneral_apply, ← Equiv.sum_comp contr.symm]
  refine Finset.sum_congr rfl fun k _ => ?_
  have hk := contrEquiv1_symm_val dims 1024 rfl rfl k
  have el : dims.lhsIdx (ix3 b n o) (contr.symm k) = ix3 b k n := by
    funext a; apply Fin.ext
    match a with
    | ⟨0, _⟩ => rfl
    | ⟨1, _⟩ => exact hk
    | ⟨2, _⟩ => rfl
  have er : dims.rhsIdx (ix3 b n o) (contr.symm k) = ix2 o k := by
    funext a; apply Fin.ext
    match a with
    | ⟨0, _⟩ => rfl
    | ⟨1, _⟩ => exact hk
  rw [el, er]

/-- The reference's composed term is the partial convolution of its arguments. -/
theorem term_eq (X : FVec Ideal S4x2048x8192 .f32) (W : FVec Ideal S1024x1024 .f32) :
    concatenate S4x2048x8192 1
      [⟨S4x1024x8192, transpose S4x1024x8192 [0, 2, 1] (Host.dotGeneral dims none
          (extractStridedSlice S4x1024x8192 ![0, 0, 0] X Facts₀.slices_S4x2048x8192_S4x1024x8192_0_0_0) W)
          Facts₀.transposes_S4x8192x1024_S4x1024x8192_0_2_1⟩,
        ⟨S4x1024x8192, extractStridedSlice S4x1024x8192 ![0, 1024, 0] X
          Facts₀.slices_S4x2048x8192_S4x1024x8192_0_1024_0⟩]
      Facts₀.concatenates_S4x1024x8192_S4x1024x8192_S4x2048x8192_d1 = partialConv X W := by
  funext i
  obtain ⟨b, ch, n, rfl⟩ : ∃ (b : Fin 4) (ch : Fin 2048) (n : Fin 8192), i = ix3 b ch n := ⟨_, _, _, eq_ix3 i⟩
  rcases channel_cases ch with ⟨o, rfl⟩ | ⟨o, rfl⟩
  · rw [partialConv_mix]
    refine (concatenate_pair_apply_left (s₁ := S4x1024x8192) (s₂ := S4x1024x8192) (t := S4x2048x8192) 1 _ _ _ _ rfl
      (ix3 b o n) fun a => match a with | ⟨0, _⟩ => rfl | ⟨1, _⟩ => rfl | ⟨2, _⟩ => rfl).trans ?_
    refine (transpose_ix3_021_apply _ _ b o n).trans ((product_apply _ W b n o).trans ?_)
    refine Finset.sum_congr rfl fun k _ => ?_
    rw [extractStridedSlice_apply _ X _ (ix3 b k n) (ix3 b (mixCh k) n) fun a => match a with
      | ⟨0, _⟩ => (Nat.zero_add _).symm
      | ⟨1, _⟩ => (Nat.zero_add _).symm
      | ⟨2, _⟩ => (Nat.zero_add _).symm]
    exact mul_comm _ _
  · rw [partialConv_keep]
    refine (concatenate_pair_apply_right (s₁ := S4x1024x8192) (s₂ := S4x1024x8192) (t := S4x2048x8192) 1 _ _ _ _ rfl rfl
      (ix3 b o n) (fun a ha => match a, ha with
        | ⟨0, _⟩, _ => rfl
        | ⟨1, _⟩, h => absurd rfl h
        | ⟨2, _⟩, _ => rfl) (Nat.add_comm _ _)).trans ?_
    exact extractStridedSlice_apply _ X _ (ix3 b o n) (ix3 b (keepCh o) n) fun a => match a with
      | ⟨0, _⟩ => (Nat.zero_add _).symm
      | ⟨1, _⟩ => rfl
      | ⟨2, _⟩ => (Nat.zero_add _).symm

end PartialConv.Ref

end
-- ==== Proof.lean ====
/-
  The certificate: frames of the three programs, the idealization's ledger, and the equality over the extended reals of
  the kernel's result and the reference's. The mathematics is in Proof/Mixed.lean; Proof/Block.lean and
  Proof/Array.lean read the kernel, Proof/RefValue.lean reads the reference; this file assembles the claims.
-/
module

public import proofs.«01_k».proof.Defs
public import proofs.«01_k».proof.Proof.Array
public import proofs.«01_k».proof.Proof.RefValue
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments unchanged, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same result: each with the partial convolution of its arguments, which agree. -/
theorem algebraic : Cert.algebraic_KernelIdeal_ReferenceIdeal := by
  intro m ρ m' ρ' _ hagree
  refine ⟨fun c => PartialConv.Ker.result m c, PartialConv.Ker.run m ρ, ?_⟩
  refine (θ_run Cert.ReferenceIdeal.defs _ _).mono (fun r h c => ⟨(h c).1.trans ?_, (h c).2⟩)
    (Cert.ReferenceIdeal.Value.run (F := Ideal) m' ρ')
  refine (PartialConv.Ref.term_eq _ _).trans ?_
  exact congrArg₂ PartialConv.partialConv (hagree c).1 (hagree c).2

/-- All five claims: the three frames, the ledger of the idealization (no rule applied), and the equality. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
